-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x128 : Shape := ⟨3, ![32, 2048, 128]⟩
abbrev S128x128 : Shape := ⟨2, ![128, 128]⟩
abbrev S128 : Shape := ⟨1, ![128]⟩
abbrev S2048x128 : Shape := ⟨2, ![2048, 128]⟩
abbrev S65536x128 : Shape := ⟨2, ![65536, 128]⟩
abbrev S1x128 : Shape := ⟨2, ![1, 128]⟩
abbrev S16x2048x128 : Shape := ⟨3, ![16, 2048, 128]⟩
abbrev S16 : Shape := ⟨1, ![16]⟩
abbrev S1 : Shape := ⟨1, ![1]⟩
abbrev S_ : Shape := ⟨0, ![]⟩
abbrev S1x2048x128 : Shape := ⟨3, ![1, 2048, 128]⟩

abbrev nBuf : Space → Nat
  | .hbm => 8
  | .vmem => 5
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128, .f32⟩
  | .hbm, ⟨3, _⟩ => ⟨S2048x128, .f32⟩
  | .hbm, ⟨4, _⟩ => ⟨S65536x128, .f32⟩
  | .hbm, ⟨5, _⟩ => ⟨S1x128, .f32⟩
  | .hbm, ⟨6, _⟩ => ⟨S65536x128, .f32⟩
  | .hbm, ⟨7, _⟩ => ⟨S32x2048x128, .f32⟩
  | .local _ .vmem, ⟨0, _⟩ => ⟨S128x128, .f32⟩
  | .local _ .vmem, ⟨1, _⟩ => ⟨S1x128, .f32⟩
  | .local _ .vmem, ⟨2, _⟩ => ⟨S2048x128, .f32⟩
  | .local _ .vmem, ⟨3, _⟩ => ⟨S16x2048x128, .f32⟩
  | .local _ .vmem, ⟨4, _⟩ => ⟨S16x2048x128, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x2048x128 : Shape := ⟨3, ![32, 2048, 128]⟩
abbrev S128x128 : Shape := ⟨2, ![128, 128]⟩
abbrev S128 : Shape := ⟨1, ![128]⟩
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x1x128 : Shape := ⟨3, ![1, 1, 128]⟩
abbrev S1x2048x128 : Shape := ⟨3, ![1, 2048, 128]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128, .f32⟩
  | .hbm, ⟨3, _⟩ => ⟨S2048x128, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x128, .f32⟩
  | .hbm, ⟨24, _⟩ => ⟨S2048x128, .i1⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S32x2048x128, .f32⟩
  | .hbm, ⟨29, _⟩ => ⟨S1x1x128, .f32⟩
  | .hbm, ⟨30, _⟩ => ⟨S32x2048x128, .f32⟩
  | .hbm, ⟨31, _⟩ => ⟨S32x2048x128, .f32⟩
  | .hbm, ⟨32, _⟩ => ⟨S1x2048x128, .f32⟩
  | .hbm, ⟨33, _⟩ => ⟨S32x2048x128, .f32⟩
  | .hbm, ⟨34, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Program.lean ====
/-
  The kernel's body as two phases of four sweeps over the sixteen slots. A phase `p` moves the chunks `16 p + j` of the
  first operand through the slots: it starts every copy in, then per slot waits for it and stores the chunk's product with
  the weights plus the bias, then starts every copy out, then waits for each.
-/
module

public import proofs.«01_k».proof.Proof.Gen.Kernel.Frame
public import proofs.«01_k».proof.Proof.Gen.Kernel.Skeleton

@[expose] public section

set_option maxRecDepth 16384

noncomputable section

namespace Cert.Kernel.Chunks

open Idealize.ShloMosaic Idealize.ShloMosaic.TcCoe
open Idealize.SL Idealize.SL.Sem
open Cert.Kernel Cert.Kernel.Gen

variable {F : FTy → Type} [FloatOps F]

/-- A kernel-level program of this signature. -/
abbrev KProg (F : FTy → Type) (α : Type) := Prog (TpuEff nD τ sig (Elt F) Λ₀ .tc) α

/-- The chunk phase `p` moves through slot `j` starts at this row. -/
def row (p : Fin 2) (j : Fin 16) : ℕ := (16 * p.val + j.val) * 2048

/-- A chunk's rows lie in the array. -/
theorem row_inb (p : Fin 2) (j : Fin 16) : ∀ a, ![row p j, 0] a + S2048x128.size a ≤ S65536x128.size a := by
  intro a
  have h : row p j + 2048 ≤ 65536 := by unfold row; omega
  match a with
  | ⟨0, _⟩ => exact h
  | ⟨1, _⟩ => exact (by decide : 0 + 128 ≤ 128)

/-- A slot lies in its buffer. -/
theorem slot_inb (j : Fin 16) : ∀ a, ![j.val, 0, 0] a + S1x2048x128.size a ≤ S16x2048x128.size a := by
  intro a
  match a with
  | ⟨0, _⟩ => exact j.isLt
  | ⟨1, _⟩ => exact (by decide : 0 + 2048 ≤ 2048)
  | ⟨2, _⟩ => exact (by decide : 0 + 128 ≤ 128)

/-- A cell lies in its array of semaphores. -/
theorem cell_inb (j : Fin 16) : ∀ a, ![j.val] a + S1.size a ≤ S16.size a := by
  intro a
  match a with
  | ⟨0, _⟩ => exact j.isLt

/-- The rectangle of the chunk's rows. -/
abbrev rowRect (p : Fin 2) (j : Fin 16) : Rect S65536x128 := Rect.unit (s := S65536x128) ![row p j, 0] S2048x128.size (row_inb p j)

/-- The rectangle of a slot. -/
abbrev slotRect (j : Fin 16) : Rect S16x2048x128 := Rect.unit (s := S16x2048x128) ![j.val, 0, 0] S1x2048x128.size (slot_inb j)

/-- The chunk of an array of 65536 rows. -/
abbrev chunkOf (a : Memref sig .tc .hbm S65536x128 .f32) (p : Fin 2) (j : Fin 16) : Memref sig .tc .hbm S2048x128 .f32 :=
  a.slice (rowRect p j) (fun _ => rfl)

/-- A slot of a buffer of sixteen chunks. -/
abbrev slotOf (a : Memref sig .tc .vmem S16x2048x128 .f32) (j : Fin 16) : Memref sig .tc .vmem S2048x128 .f32 :=
  (a.slice (slotRect j) (fun _ => rfl)).squeeze S2048x128 squeezes_S1x2048x128_S2048x128

/-- A cell of an array of sixteen semaphores. -/
abbrev semAt (s : DmaSems sig S16) (j : Fin 16) : DmaSem sig :=
  ((s.slice (Rect.unit (s := S16) ![j.val] S1.size (cell_inb j))).squeeze S_ squeezes_S1_S_).sem

/-- Start the copy of a chunk into its slot. -/
def startIn (x : Memref sig .tc .hbm S65536x128 .f32) (buf : Memref sig .tc .vmem S16x2048x128 .f32) (sem : DmaSems sig S16)
    (p : Fin 2) (j : Fin 16) : KProg F PUnit :=
  Prog.lift (.enqueueDma (chunkOf x p j) (.here (slotOf buf j)) (.dma (semAt sem j))
    (View.wordExact_bits rfl) ((View.wordExact_bits rfl).reshape _ _) ⟨Or.inl rfl, trivial⟩)

/-- Wait for the copy of a chunk into its slot. -/
def waitIn (x : Memref sig .tc .hbm S65536x128 .f32) (buf : Memref sig .tc .vmem S16x2048x128 .f32) (sem : DmaSems sig S16)
    (p : Fin 2) (j : Fin 16) : KProg F PUnit :=
  Prog.lift (.waitDma2 (semAt sem j) (chunkOf x p j) (slotOf buf j) (View.wordExact_bits rfl) ((View.wordExact_bits rfl).reshape _ _))

/-- Store a slot's product with the weights, plus `v`, in the slot of the second buffer. -/
def compute (w : Memref sig .tc .vmem S128x128 .f32) (buf out : Memref sig .tc .vmem S16x2048x128 .f32) (v : FVec F S2048x128 .f32)
    (j : Fin 16) : KProg F PUnit := do
  let a : Vec F S1x2048x128 .f32 ← Prog.lift (.load buf (slotRect j).toLoadRect (View.loadsAt_vmem h_S1x2048x128))
  let b : Vec F S128x128 .f32 ← Prog.lift (.load w (Rect.unit (s := S128x128) ![0, 0] S128x128.size inb_S128x128_S128x128_0_0).toLoadRect (View.loadsAt_vmem h_S128x128))
  let _ : Vec F S1x2048x128 .f32 ← Prog.lift (.load out (slotRect j).toLoadRect (View.loadsAt_vmem h_S1x2048x128))
  Prog.lift (.store out (slotRect j) (k0_pay2 v a b) Finset.univ (View.stores_vmem_bits_univ h_S1x2048x128 rfl) (.inl rfl))

/-- Start the copy of a slot out to its chunk. -/
def startOut (y : Memref sig .tc .hbm S65536x128 .f32) (out : Memref sig .tc .vmem S16x2048x128 .f32) (sem : DmaSems sig S16)
    (p : Fin 2) (j : Fin 16) : KProg F PUnit :=
  Prog.lift (.enqueueDma (slotOf out j) (.here (chunkOf y p j)) (.dma (semAt sem j))
    ((View.wordExact_bits rfl).reshape _ _) (View.wordExact_bits rfl) ⟨Or.inl rfl, trivial⟩)

/-- Wait for the copy of a slot out to its chunk. -/
def waitOut (y : Memref sig .tc .hbm S65536x128 .f32) (out : Memref sig .tc .vmem S16x2048x128 .f32) (sem : DmaSems sig S16)
    (p : Fin 2) (j : Fin 16) : KProg F PUnit :=
  Prog.lift (.waitDma2 (semAt sem j) (slotOf out j) (chunkOf y p j) ((View.wordExact_bits rfl).reshape _ _) (View.wordExact_bits rfl))

/-- The sixteen slots in order. -/
def slots : List (Fin 16) := [0, 1, 2, 3, 4, 5, 6, 7, 8, 9, 10, 11, 12, 13, 14, 15]

/-- Run `f` at each of the listed slots in order. -/
def sweep (f : Fin 16 → KProg F PUnit) : List (Fin 16) → KProg F PUnit
  | [] => pure ⟨⟩
  | j :: l => f j >>= fun _ => sweep f l

/-- One phase of the kernel. -/
def phase (x : Memref sig .tc .hbm S65536x128 .f32) (w : Memref sig .tc .vmem S128x128 .f32) (y : Memref sig .tc .hbm S65536x128 .f32)
    (buf out : Memref sig .tc .vmem S16x2048x128 .f32) (semIn semOut : DmaSems sig S16) (v : FVec F S2048x128 .f32) (p : Fin 2) : KProg F PUnit := do
  sweep (startIn x buf semIn p) slots
  sweep (fun j => waitIn x buf semIn p j >>= fun _ => compute w buf out v j) slots
  sweep (startOut y out semOut p) slots
  sweep (waitOut y out semOut p) slots

/-- The kernel: read the table and the bias, then the two phases. -/
def body (x : Memref sig .tc .hbm S65536x128 .f32) (w : Memref sig .tc .vmem S128x128 .f32) (b : Memref sig .tc .vmem S1x128 .f32)
    (t : Memref sig .tc .vmem S2048x128 .f32) (y : Memref sig .tc .hbm S65536x128 .f32)
    (buf out : Memref sig .tc .vmem S16x2048x128 .f32) (semIn semOut : DmaSems sig S16) : KProg F PUnit := do
  let v0 : Vec F S2048x128 .f32 ← Prog.lift (.load t (Rect.unit (s := S2048x128) ![0, 0] S2048x128.size inb_S2048x128_S2048x128_0_0).toLoadRect (View.loadsAt_vmem h_S2048x128))
  let v1 : Vec F S1x128 .f32 ← Prog.lift (.load b (Rect.unit (s := S1x128) ![0, 0] S1x128.size inb_S1x128_S1x128_0_0).toLoadRect (View.loadsAt_vmem h_S1x128))
  phase x w y buf out semIn semOut (k0_pay1 v0 v1) 0
  phase x w y buf out semIn semOut (k0_pay1 v0 v1) 1

set_option maxRecDepth 65536 in
set_option maxHeartbeats 4000000 in
/-- The printed kernel is the two phases. -/
theorem kernel_eq (a0 : Memref sig .tc .hbm S65536x128 .f32) (h0 : a0.IsWhole) (a1 : Memref sig .tc .vmem S128x128 .f32) (h1 : a1.IsWhole)
    (a2 : Memref sig .tc .vmem S1x128 .f32) (h2 : a2.IsWhole) (a3 : Memref sig .tc .vmem S2048x128 .f32) (h3 : a3.IsWhole)
    (a4 : Memref sig .tc .hbm S65536x128 .f32) (h4 : a4.IsWhole) (a5 : Memref sig .tc .vmem S16x2048x128 .f32) (h5 : a5.IsWhole)
    (a6 : Memref sig .tc .vmem S16x2048x128 .f32) (h6 : a6.IsWhole) (a7 a8 : DmaSems sig S16) :
    cc0__fused_kernel (F := F) a0 h0 a1 h1 a2 h2 a3 h3 a4 h4 a5 h5 a6 h6 a7 a8 = body a0 a1 a2 a3 a4 a5 a6 a7 a8 := by
  rw [cc0__fused_kernel_eq_skeleton]
  rfl

end Cert.Kernel.Chunks
-- ==== Proof.Steps.lean ====
/-
  One instruction of a sweep at a time: a copy started, a copy waited for, one slot's product stored. Each is stated over
  memrefs owned at the values read through them, so the same three lemmas serve both phases and every slot. `sweep_step`
  lifts a lemma about one slot to the sweep over all sixteen.
-/
module

public import proofs.«01_k».proof.Proof.Program
public import Idealize.ShloMosaic.Lib.Pipeline.FrameSuffixV
public import Idealize.ShloMosaic.Lib.Transfers
public import Idealize.ShloMosaic.Lib.ViewIndex
public import Idealize.ShloMosaic.Lib.Writes
public import Idealize.ShloMosaic.Lib.Pipeline.Value

@[expose] public section

set_option maxRecDepth 16384

noncomputable section

namespace Cert.Kernel.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The weakest precondition of a kernel-level program on core `c`'s TensorCore. -/
abbrev Runs (c : Dev nD) (e : KProg F PUnit) (Q : PUnit → sProp 𝕄) : sProp 𝕄 :=
  wp frame (wpE (defs₀ (F := F)) Variants.none (c : Thread nD τ) none) Set.univ e Q

/-- The core owes nothing and has recorded some waits. -/
abbrev clear (c : Dev nD) : sProp 𝕄 := iprop(∃ W : Waits sig Unit, owes (c : Thread nD τ) 0 W)

/-- A memref owned at contents nothing names. -/
abbrev loose (c : Dev nD) {sp : Space} {s : Shape} (a : Memref sig .tc sp s .f32) : sProp 𝕄 :=
  iprop(∃ X : s.Idx → Elt F .f32, owns (c : Thread nD τ) a fullShare X)

/-- A transfer in flight on cell `sm` delivering `D`, of `N` words. -/
abbrev Moving (c : Dev nD) (sm : DmaSem sig) (N : ℕ) (D : sProp 𝕄) : sProp 𝕄 :=
  Transfers.Flight (countersEmb (U := Pipeline.UD sig nD τ)) (c : Thread nD τ) (.dma sm) () N D

/-- Ownership of a memref at a value, opened. -/
theorem owns_open (c : Dev nD) {sp : Space} {s : Shape} (a : Memref sig .tc sp s .f32) (q : PosShare TreeShare) (X : s.Idx → Elt F .f32) :
    (owns (c : Thread nD τ) a q X : sProp 𝕄)
      = iprop(∃ f, ⌜a.view.read (Elt F) f = X⌝ ∗ (a.view.loc (c : Thread nD τ) ↦[a.view.set]{q} f)) := rfl

/-- A copy started: the source, the destination at anything and the cell at zero become a transfer in flight that delivers
    the destination at the source's contents and the source back. -/
theorem start_step (c : Dev nD) {sp sp' : Space} {s : Shape} (hs : 0 < s.numel)
    (src : Memref sig .tc sp s .f32) (dst : Memref sig .tc sp' s .f32) (sm : DmaSem sig)
    {h₁ : src.view.WordExact} {h₂ : dst.view.WordExact} {h₃ : DmaTarget.Typed (nD := nD) (τ := τ) (p := .tc) sp (.dma sm) (.here dst)}
    (X : s.Idx → Elt F .f32) (k : PUnit → KProg F PUnit) (Q : PUnit → sProp 𝕄) :
    iprop(owns (c : Thread nD τ) src fullShare X ∗ loose c dst ∗ semVal ((c : Thread nD τ), SemLoc.dma sm) 0)
      ⊢ iprop((Moving c sm dst.view.dmaCredit iprop(owns (c : Thread nD τ) dst fullShare X ∗ owns (c : Thread nD τ) src fullShare X)
            -∗ Runs c (k ⟨⟩) Q)
          -∗ Runs c (.op (.enqueueDma src (.here dst) (.dma sm) h₁ h₂ h₃) k) Q) := by
  unfold loose owns
  iintro ⟨⟨%fs, %hfs, Hs⟩, ⟨%Y, %fd, -, Hd⟩, Hc⟩ Hk
  iapply (Transfers.wp_dmaLocal (countersEmb (U := Pipeline.UD sig nD τ)) Variants.none (c : Thread nD τ) none ()
    dst.view.dmaCredit (View.amount_dma _ _) (View.dmaCredit_pos _ hs) (Finset.Subset.refl _)) $$ [Hs Hd Hc]
  · isplitl [Hs]; · iexact Hs
    isplitl [Hd]; · iexact Hd
    iexact Hc
  iintro HF
  iapply Hk
  iapply (Transfers.Flight_mono _ _ ?_) $$ HF
  iintro ⟨Hd, Hs⟩
  isplitl [Hd]
  · iexists _; isplitr; swap; · iexact Hd
    ipureintro
    rw [View.read_write_univ]; exact hfs
  · iexists _; isplitr; swap; · iexact Hs
    ipureintro; exact hfs

/-- A copy waited for: the transfer's delivery, the cell back at zero. -/
theorem wait_step (c : Dev nD) {sp sp' : Space} {s : Shape}
    (src : Memref sig .tc sp s .f32) (dst : Memref sig .tc sp' s .f32) (sm : DmaSem sig)
    {h₁ : src.view.WordExact} {h₂ : dst.view.WordExact} (D : sProp 𝕄) (k : PUnit → KProg F PUnit) (Q : PUnit → sProp 𝕄) :
    iprop(Moving c sm dst.view.dmaCredit D ∗ clear c)
      ⊢ iprop((iprop(D ∗ semVal ((c : Thread nD τ), SemLoc.dma sm) 0 ∗ clear c) -∗ Runs c (k ⟨⟩) Q)
          -∗ Runs c (.op (.waitDma2 sm src dst h₁ h₂) k) Q) := by
  iintro ⟨HF, ⟨%W, HW⟩⟩ Hk
  iapply (Transfers.wp_waitLocal (countersEmb (U := Pipeline.UD sig nD τ)) Variants.none (c : Thread nD τ) none () rfl) $$ [HF HW]
  · isplitl [HF]; · iexact HF
    iexact HW
  iintro ⟨HD, Hc, HW⟩
  iapply Hk
  isplitl [HD]; · iexact HD
  isplitl [Hc]; · iexact Hc
  iexists _; iexact HW

/-- A chunk's result: its product with the weights, plus the table and bias. -/
def chunkVal (v : FVec F S2048x128 .f32) (a : FVec F S2048x128 .f32) (w : FVec F S128x128 .f32) : FVec F S2048x128 .f32 :=
  addf (matmul dot_S2048x128_S128x128_S2048x128_1_0_0_1_n_n none a w (constant S2048x128 .f32 0#32)) v

/-- A load of a whole memref as one block at offset zero reads it. -/
theorem read_all {κ : Kind} {sp : Space} {s : Shape} {e : EltTy} (v : View sig κ sp s e) {off : Fin s.rank → ℕ} (h0 : ∀ a, off a = 0)
    (inb : ∀ a, off a + s.size a ≤ s.size a) (f : v.ty.Contents (Elt F)) :
    (v.slice (Rect.unit (s := s) off s.size inb)).read (Elt F) f = v.read (Elt F) f := by
  funext x
  show v.read (Elt F) f ((Rect.unit (s := s) off s.size inb).emb x) = v.read (Elt F) f x
  congr 1
  funext a
  apply Fin.ext
  show off a + 1 * (x a).val = (x a).val
  rw [h0 a]; omega

/-- A whole memref loaded: the program continues at the value read through it. -/
theorem load_step (c : Dev nD) {cs : CoreSpace} {s : Shape} (a : Memref sig .tc cs s .f32) {off : Fin s.rank → ℕ} (h0 : ∀ i, off i = 0)
    (inb : ∀ i, off i + s.size i ≤ s.size i) {hl : a.view.LoadsAt (Rect.unit (s := s) off s.size inb).toLoadRect}
    (q : PosShare TreeShare) (X : s.Idx → Elt F .f32) (k : (s.Idx → Elt F .f32) → KProg F PUnit) (Q : PUnit → sProp 𝕄) :
    owns (c : Thread nD τ) a q X
      ⊢ iprop((owns (c : Thread nD τ) a q X -∗ Runs c (k X) Q)
          -∗ Runs c (.op (.load a (Rect.unit (s := s) off s.size inb).toLoadRect hl) k) Q) := by
  unfold owns
  iintro ⟨%f, %hf, Ha⟩ Hk
  have e : (a.view.slice (Rect.unit (s := s) off s.size inb)).read (Elt F) f = X := (read_all a.view h0 inb f).trans hf
  iapply (wp_load_rect Variants.none (c : Thread nD τ) none Set.univ (m := a) (r := Rect.unit (s := s) off s.size inb) (hl := hl)
    (View.set_slice_subset _ _)) $$ Ha
  iintro Ha
  rw [e]
  iapply Hk
  iexists f; isplitr; swap; · iexact Ha
  ipureintro; exact hf

/-- One slot's product stored: the slot of the second buffer ends at the chunk's result. -/
theorem compute_step (c : Dev nD) (w : Memref sig .tc .vmem S128x128 .f32) (buf out : Memref sig .tc .vmem S16x2048x128 .f32)
    (v : FVec F S2048x128 .f32) (j : Fin 16) (q : PosShare TreeShare) (A : FVec F S2048x128 .f32) (B : FVec F S128x128 .f32)
    (k : PUnit → KProg F PUnit) (Q : PUnit → sProp 𝕄) :
    iprop(owns (c : Thread nD τ) (slotOf buf j) fullShare A ∗ loose c (slotOf out j) ∗ owns (c : Thread nD τ) w q B)
      ⊢ iprop((iprop(owns (c : Thread nD τ) (slotOf buf j) fullShare A
              ∗ owns (c : Thread nD τ) (slotOf out j) fullShare (chunkVal v A B) ∗ owns (c : Thread nD τ) w q B) -∗ Runs c (k ⟨⟩) Q)
          -∗ Runs c (compute w buf out v j >>= k) Q) := by
  have hset : ∀ b : Memref sig .tc .vmem S16x2048x128 .f32, (slotOf b j).view.set = (b.view.slice (slotRect j)).set := fun b =>
    View.set_reshape _ _
  simp only [loose, owns_open c (slotOf buf j), owns_open c (slotOf out j), hset]
  iintro ⟨⟨%f, %hf, Hb⟩, ⟨%Y, %g, -, Ho⟩, Hw⟩ Hk
  unfold compute
  iapply (wp_load_rect Variants.none (c : Thread nD τ) none Set.univ (m := buf) (r := slotRect j) (Finset.Subset.refl _)) $$ Hb
  iintro Hb
  iapply (load_step c w (by intro i; fin_cases i <;> rfl) inb_S128x128_S128x128_0_0 q B) $$ Hw
  iintro Hw
  iapply (wp_load_rect Variants.none (c : Thread nD τ) none Set.univ (m := out) (r := slotRect j) (Finset.Subset.refl _)) $$ Ho
  iintro Ho
  iapply (wp_store Variants.none (c : Thread nD τ) none Set.univ (m := out) (r := slotRect j) (Mk := Finset.univ)
    (S := (out.view.slice (slotRect j)).set) (f := g) (Finset.Subset.refl _)) $$ Ho
  iintro Ho
  iapply Hk
  isplitl [Hb]
  · iexists f; isplitr; swap; · iexact Hb
    ipureintro; exact hf
  isplitl [Ho]; swap; · iexact Hw
  iexists _; isplitr; swap; · iexact Ho
  ipureintro
  have e : shapeCast S2048x128 ((buf.view.slice (slotRect j)).read (Elt F) f) shapeCasts_S1x2048x128_S2048x128 = A := hf
  have e' : k0_pay2 v ((buf.view.slice (slotRect j)).read (Elt F) f) B = shapeCast S1x2048x128 (chunkVal v A B) shapeCasts_S2048x128_S1x2048x128 := by
    rw [← e]; rfl
  have e'' : (out.view.slice (slotRect j)).read (Elt F) ((out.view.slice (slotRect j)).write (Elt F) g
      (shapeCast S1x2048x128 (chunkVal v A B) shapeCasts_S2048x128_S1x2048x128) Finset.univ) = _ := View.read_write_univ _ _
  refine Eq.trans ?_ (shapeCast_shapeCast (chunkVal v A B) shapeCasts_S2048x128_S1x2048x128 shapeCasts_S1x2048x128_S2048x128)
  rw [← e'', ← e']
  rfl

/-- A sweep from one slot: if `f j` takes `P j` to `P' j` beside `R`, the sweep takes all of `P` to all of `P'` beside `R`. -/
theorem sweep_step (c : Dev nD) (f : Fin 16 → KProg F PUnit) (P P' : Fin 16 → sProp 𝕄) (R : sProp 𝕄) (Q : PUnit → sProp 𝕄)
    (h : ∀ j (k : PUnit → KProg F PUnit), iprop(P j ∗ R) ⊢ iprop((iprop(P' j ∗ R) -∗ Runs c (k ⟨⟩) Q) -∗ Runs c (f j >>= k) Q)) :
    ∀ (l : List (Fin 16)), l.Nodup → ∀ k : PUnit → KProg F PUnit,
      iprop(bigSep l.toFinset P ∗ R) ⊢ iprop((iprop(bigSep l.toFinset P' ∗ R) -∗ Runs c (k ⟨⟩) Q) -∗ Runs c (sweep f l >>= k) Q) := by
  intro l
  induction l with
  | nil =>
    intro _ k
    iintro H Hk
    iapply Hk
    iexact H
  | cons j l ih =>
    intro hl k
    have hj : j ∉ l.toFinset := fun hm => (List.nodup_cons.mp hl).1 (List.mem_toFinset.mp hm)
    have hi : ∀ Φ : Fin 16 → sProp 𝕄, bigSep (insert j l.toFinset) Φ = iprop(Φ j ∗ bigSep l.toFinset Φ) := fun Φ => bigSep_insert hj
    rw [List.toFinset_cons, hi, hi]
    have e : (sweep f (j :: l) >>= k) = (f j >>= fun _ => sweep f l >>= k) := by
      show ((f j >>= fun _ => sweep f l) >>= k) = _
      rw [bind_assoc]
    rw [e]
    iintro ⟨⟨Hj, Hl⟩, HR⟩ Hk
    iapply (h j (fun _ => sweep f l >>= k)) $$ [Hj HR]
    · isplitl [Hj]; · iexact Hj
      iexact HR
    iintro ⟨Hj, HR⟩
    iapply (ih (List.nodup_cons.mp hl).2 k) $$ [Hl HR]
    · isplitl [Hl]; · iexact Hl
      iexact HR
    iintro ⟨Hl, HR⟩
    iapply Hk
    isplitr [HR]; swap; · iexact HR
    isplitl [Hj]; · iexact Hj
    iexact Hl

end Cert.Kernel.Chunks
-- ==== Proof.Phase.lean ====
/-
  One phase of the kernel: the four sweeps over the sixteen slots, each slot passing from idle through loading, computed and
  storing to done. The states are per slot and the sweeps' lemmas lift them, so nothing is said twice for two slots or two
  phases.
-/
module

public import proofs.«01_k».proof.Proof.Steps

@[expose] public section

set_option maxRecDepth 16384

noncomputable section

namespace Cert.Kernel.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- What a phase works on: the array read, the weights, the array written, the two buffers of slots, the two arrays of cells. -/
structure Operands where
  x : Memref sig .tc .hbm S65536x128 .f32
  w : Memref sig .tc .vmem S128x128 .f32
  y : Memref sig .tc .hbm S65536x128 .f32
  buf : Memref sig .tc .vmem S16x2048x128 .f32
  out : Memref sig .tc .vmem S16x2048x128 .f32
  semIn : DmaSems sig S16
  semOut : DmaSems sig S16

/-- A cell at zero. -/
abbrev cell (c : Dev nD) (s : DmaSems sig S16) (j : Fin 16) : sProp 𝕄 := semVal ((c : Thread nD τ), SemLoc.dma (semAt s j)) 0

variable (o : Operands) (c : Dev nD) (p : Fin 2) (v : FVec F S2048x128 .f32) (B : FVec F S128x128 .f32) (q : PosShare TreeShare)
  (X : Fin 16 → FVec F S2048x128 .f32)

/-- A chunk of the array read, held at its value. -/
abbrev source (j : Fin 16) : sProp 𝕄 := owns (c : Thread nD τ) (chunkOf o.x p j) fullShare (X j)

/-- A slot at rest: both buffers' slots and the chunk of the result at anything, both cells at zero. -/
def idle (j : Fin 16) : sProp 𝕄 :=
  iprop(loose c (slotOf o.buf j) ∗ cell c o.semIn j ∗ source o c p X j
    ∗ loose c (slotOf o.out j) ∗ cell c o.semOut j ∗ loose c (chunkOf o.y p j))

/-- A slot whose chunk is on its way in. -/
def loading (j : Fin 16) : sProp 𝕄 :=
  iprop(Moving c (semAt o.semIn j) (slotOf o.buf j).view.dmaCredit
      iprop(owns (c : Thread nD τ) (slotOf o.buf j) fullShare (X j) ∗ source o c p X j)
    ∗ loose c (slotOf o.out j) ∗ cell c o.semOut j ∗ loose c (chunkOf o.y p j))

/-- A slot whose result is stored in the second buffer. -/
def computed (j : Fin 16) : sProp 𝕄 :=
  iprop(loose c (slotOf o.buf j) ∗ cell c o.semIn j ∗ source o c p X j
    ∗ owns (c : Thread nD τ) (slotOf o.out j) fullShare (chunkVal v (X j) B) ∗ cell c o.semOut j ∗ loose c (chunkOf o.y p j))

/-- A slot whose result is on its way out. -/
def storing (j : Fin 16) : sProp 𝕄 :=
  iprop(loose c (slotOf o.buf j) ∗ cell c o.semIn j ∗ source o c p X j
    ∗ Moving c (semAt o.semOut j) (chunkOf o.y p j).view.dmaCredit
      iprop(owns (c : Thread nD τ) (chunkOf o.y p j) fullShare (chunkVal v (X j) B)
        ∗ owns (c : Thread nD τ) (slotOf o.out j) fullShare (chunkVal v (X j) B)))

/-- A slot whose chunk of the result is written. -/
def done (j : Fin 16) : sProp 𝕄 :=
  iprop(loose c (slotOf o.buf j) ∗ cell c o.semIn j ∗ source o c p X j
    ∗ loose c (slotOf o.out j) ∗ cell c o.semOut j ∗ owns (c : Thread nD τ) (chunkOf o.y p j) fullShare (chunkVal v (X j) B))

/-- What every slot shares: the weights, and the core owing nothing. -/
abbrev shared : sProp 𝕄 := iprop(owns (c : Thread nD τ) o.w q B ∗ clear c)

/-- Starting a slot's copy in. -/
theorem startIn_slot (Q : PUnit → sProp 𝕄) (k : PUnit → KProg F PUnit) (j : Fin 16) :
    iprop(idle o c p X j ∗ shared o c B q)
      ⊢ iprop((iprop(loading o c p X j ∗ shared o c B q) -∗ Runs c (k ⟨⟩) Q) -∗ Runs c (startIn o.x o.buf o.semIn p j >>= k) Q) := by
  unfold idle loading
  iintro ⟨⟨Hb, Hi, Hx, Hrest⟩, HR⟩ Hk
  iapply (start_step c (by decide) (chunkOf o.x p j) (slotOf o.buf j) (semAt o.semIn j) (X j) k Q) $$ [Hb Hi Hx]
  · isplitl [Hx]; · iexact Hx
    isplitl [Hb]; · iexact Hb
    iexact Hi
  iintro HF
  iapply Hk
  isplitr [HR]; swap; · iexact HR
  isplitl [HF]; · iexact HF
  iexact Hrest

/-- Waiting for a slot's copy in, then storing its result. -/
theorem compute_slot (Q : PUnit → sProp 𝕄) (k : PUnit → KProg F PUnit) (j : Fin 16) :
    iprop(loading o c p X j ∗ shared o c B q)
      ⊢ iprop((iprop(computed o c p v B X j ∗ shared o c B q) -∗ Runs c (k ⟨⟩) Q)
        -∗ Runs c ((waitIn o.x o.buf o.semIn p j >>= fun _ => compute o.w o.buf o.out v j) >>= k) Q) := by
  unfold loading computed
  iintro ⟨⟨HF, Ho, Hso, Hy⟩, Hw, HO⟩ Hk
  iapply (wait_step c (chunkOf o.x p j) (slotOf o.buf j) (semAt o.semIn j) _ (fun _ => compute o.w o.buf o.out v j >>= k) Q) $$ [HF HO]
  · isplitl [HF]; · iexact HF
    iexact HO
  iintro ⟨⟨Hb, Hx⟩, Hi, HO⟩
  iapply (compute_step c o.w o.buf o.out v j q (X j) B k Q) $$ [Hb Ho Hw]
  · isplitl [Hb]; · iexact Hb
    isplitl [Ho]; · iexact Ho
    iexact Hw
  iintro ⟨Hb, Ho, Hw⟩
  iapply Hk
  isplitr [Hw HO]; swap
  · isplitl [Hw]; · iexact Hw
    iexact HO
  isplitl [Hb]; · iexists _; iexact Hb
  isplitl [Hi]; · iexact Hi
  isplitl [Hx]; · iexact Hx
  isplitl [Ho]; · iexact Ho
  isplitl [Hso]; · iexact Hso
  iexact Hy

/-- Starting a slot's copy out. -/
theorem startOut_slot (Q : PUnit → sProp 𝕄) (k : PUnit → KProg F PUnit) (j : Fin 16) :
    iprop(computed o c p v B X j ∗ shared o c B q)
      ⊢ iprop((iprop(storing o c p v B X j ∗ shared o c B q) -∗ Runs c (k ⟨⟩) Q)
        -∗ Runs c (startOut o.y o.out o.semOut p j >>= k) Q) := by
  unfold computed storing
  iintro ⟨⟨Hb, Hi, Hx, Ho, Hso, Hy⟩, HR⟩ Hk
  iapply (start_step c (by decide) (slotOf o.out j) (chunkOf o.y p j) (semAt o.semOut j) (chunkVal v (X j) B) k Q) $$ [Ho Hy Hso]
  · isplitl [Ho]; · iexact Ho
    isplitl [Hy]; · iexact Hy
    iexact Hso
  iintro HF
  iapply Hk
  isplitr [HR]; swap; · iexact HR
  isplitl [Hb]; · iexact Hb
  isplitl [Hi]; · iexact Hi
  isplitl [Hx]; · iexact Hx
  iexact HF

/-- Waiting for a slot's copy out. -/
theorem waitOut_slot (Q : PUnit → sProp 𝕄) (k : PUnit → KProg F PUnit) (j : Fin 16) :
    iprop(storing o c p v B X j ∗ shared o c B q)
      ⊢ iprop((iprop(done o c p v B X j ∗ shared o c B q) -∗ Runs c (k ⟨⟩) Q)
        -∗ Runs c (waitOut o.y o.out o.semOut p j >>= k) Q) := by
  unfold storing done
  iintro ⟨⟨Hb, Hi, Hx, HF⟩, Hw, HO⟩ Hk
  iapply (wait_step c (slotOf o.out j) (chunkOf o.y p j) (semAt o.semOut j) _ k Q) $$ [HF HO]
  · isplitl [HF]; · iexact HF
    iexact HO
  iintro ⟨⟨Hy, Ho⟩, Hso, HO⟩
  iapply Hk
  isplitr [Hw HO]; swap
  · isplitl [Hw]; · iexact Hw
    iexact HO
  isplitl [Hb]; · iexact Hb
  isplitl [Hi]; · iexact Hi
  isplitl [Hx]; · iexact Hx
  isplitl [Ho]; · iexists _; iexact Ho
  isplitl [Hso]; · iexact Hso
  iexact Hy

/-- No slot is listed twice, -/
theorem slots_nodup : slots.Nodup := by decide
/-- and every slot is listed. -/
theorem slots_univ : slots.toFinset = Finset.univ := by decide

/-- The sweep over all the slots, from one slot. -/
theorem sweep_all (Q : PUnit → sProp 𝕄) (k : PUnit → KProg F PUnit) (f : Fin 16 → KProg F PUnit) (P P' : Fin 16 → sProp 𝕄) (R : sProp 𝕄)
    (h : ∀ j (k : PUnit → KProg F PUnit), iprop(P j ∗ R) ⊢ iprop((iprop(P' j ∗ R) -∗ Runs c (k ⟨⟩) Q) -∗ Runs c (f j >>= k) Q)) :
    iprop(bigSep Finset.univ P ∗ R)
      ⊢ iprop((iprop(bigSep Finset.univ P' ∗ R) -∗ Runs c (k ⟨⟩) Q) -∗ Runs c (sweep f slots >>= k) Q) := by
  rw [← slots_univ]
  exact sweep_step c f P P' R Q h slots slots_nodup k

/-- One phase: from every slot at rest to every chunk of the phase's result written. -/
theorem phase_step (Q : PUnit → sProp 𝕄) (k : PUnit → KProg F PUnit) :
    iprop(bigSep Finset.univ (idle o c p X) ∗ shared o c B q)
      ⊢ iprop((iprop(bigSep Finset.univ (done o c p v B X) ∗ shared o c B q) -∗ Runs c (k ⟨⟩) Q)
        -∗ Runs c (phase o.x o.w o.y o.buf o.out o.semIn o.semOut v p >>= k) Q) := by
  unfold phase
  simp only [bind_assoc]
  iintro H Hk
  iapply (sweep_all c Q _ (startIn o.x o.buf o.semIn p) (idle o c p X) (loading o c p X) (shared o c B q)
    (fun j k => startIn_slot o c p B q X Q k j)) $$ H
  iintro H
  iapply (sweep_all c Q _ (fun j => waitIn o.x o.buf o.semIn p j >>= fun _ => compute o.w o.buf o.out v j)
    (loading o c p X) (computed o c p v B X) (shared o c B q) (fun j k => compute_slot o c p v B q X Q k j)) $$ H
  iintro H
  iapply (sweep_all c Q _ (startOut o.y o.out o.semOut p) (computed o c p v B X) (storing o c p v B X) (shared o c B q)
    (fun j k => startOut_slot o c p v B q X Q k j)) $$ H
  iintro H
  iapply (sweep_all c Q k (waitOut o.y o.out o.semOut p) (storing o c p v B X) (done o c p v B X) (shared o c B q)
    (fun j k => waitOut_slot o c p v B q X Q k j)) $$ H
  iintro H
  iapply Hk
  iexact H

end Cert.Kernel.Chunks
-- ==== Proof.Split.lean ====
/-
  The two cuts: an array of 65536 rows is its thirty-two chunks, a buffer of sixteen slots is its slots. Each family of
  rectangles is pairwise disjoint and covers, by arithmetic on the leading offset.
-/
module

public import proofs.«01_k».proof.Proof.Phase
public import Idealize.ShloMosaic.Lib.Ring

@[expose] public section

set_option maxRecDepth 16384

noncomputable section

namespace Cert.Kernel.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The chunks' rectangles, over both phases. -/
abbrev chunkRect (t : Fin 2 × Fin 16) : Rect S65536x128 := rowRect t.1 t.2

/-- Two chunks share no element, -/
theorem chunk_disjoint (t t' : Fin 2 × Fin 16) (h : t ≠ t') : Disjoint (chunkRect t).set (chunkRect t').set := by
  obtain ⟨p, j⟩ := t
  obtain ⟨p', j'⟩ := t'
  rw [Finset.disjoint_left]
  intro i hi hi'
  have h1 := (Rect.mem_set_unit.mp hi) 0
  have h2 := (Rect.mem_set_unit.mp hi') 0
  change row p j ≤ (i 0).val ∧ (i 0).val < row p j + 2048 at h1
  change row p' j' ≤ (i 0).val ∧ (i 0).val < row p' j' + 2048 at h2
  unfold row at h1 h2
  apply h
  refine Prod.ext (Fin.ext ?_) (Fin.ext ?_)
  · show p.val = p'.val
    omega
  · show j.val = j'.val
    omega

/-- and the chunks are the whole array. -/
theorem chunk_cover : Finset.univ.biUnion (fun t => (chunkRect t).set) = Finset.univ := by
  ext i
  simp only [Finset.mem_biUnion, Finset.mem_univ, true_and, iff_true]
  have hi : (i 0).val < 65536 := (i 0).isLt
  refine ⟨(⟨(i 0).val / 32768, by omega⟩, ⟨(i 0).val / 2048 % 16, by omega⟩), Rect.mem_set_unit.mpr fun a => ?_⟩
  match a with
  | ⟨0, _⟩ =>
    show row _ _ ≤ (i 0).val ∧ (i 0).val < row _ _ + 2048
    unfold row
    dsimp only
    omega
  | ⟨1, _⟩ => exact ⟨Nat.zero_le _, by have := (i 1).isLt; simpa using this⟩

/-- Two slots share no element, -/
theorem slot_disjoint (j j' : Fin 16) (h : j ≠ j') : Disjoint (slotRect j).set (slotRect j').set := by
  rw [Finset.disjoint_left]
  intro i hi hi'
  have h1 := (Rect.mem_set_unit.mp hi) 0
  have h2 := (Rect.mem_set_unit.mp hi') 0
  change j.val ≤ (i 0).val ∧ (i 0).val < j.val + 1 at h1
  change j'.val ≤ (i 0).val ∧ (i 0).val < j'.val + 1 at h2
  exact h (Fin.ext (by omega))

/-- and the slots are the whole buffer. -/
theorem slot_cover : Finset.univ.biUnion (fun j => (slotRect j).set) = Finset.univ := by
  ext i
  simp only [Finset.mem_biUnion, Finset.mem_univ, true_and, iff_true]
  refine ⟨i 0, Rect.mem_set_unit.mpr fun a => ?_⟩
  match a with
  | ⟨0, _⟩ => exact ⟨le_refl _, Nat.lt_succ_self _⟩
  | ⟨1, _⟩ => exact ⟨Nat.zero_le _, by have := (i 1).isLt; simpa using this⟩
  | ⟨2, _⟩ => exact ⟨Nat.zero_le _, by have := (i 2).isLt; simpa using this⟩

/-- A chunk of an array's contents. -/
abbrev part (X : FVec F S65536x128 .f32) (p : Fin 2) (j : Fin 16) : FVec F S2048x128 .f32 := fun i => X ((rowRect p j).emb i)

/-- An array held at contents is its chunks held at their parts. -/
theorem chunks_split (c : Dev nD) (a : Memref sig .tc .hbm S65536x128 .f32) (X : FVec F S65536x128 .f32) :
    (owns (c : Thread nD τ) a fullShare X : sProp 𝕄)
      ⊢ iprop((bigSep Finset.univ fun j => owns (c : Thread nD τ) (chunkOf a 0 j) fullShare (part X 0 j))
        ∗ (bigSep Finset.univ fun j => owns (c : Thread nD τ) (chunkOf a 1 j) fullShare (part X 1 j))) := by
  refine (owns_rects (Val := Elt F) (c : Thread nD τ) a fullShare chunkRect (fun _ _ => rfl) chunk_disjoint chunk_cover X).trans ?_
  rw [bigSep_univ_prod, bigSep_univ_two]
  exact .rfl

/-- Chunks held at the parts of some contents are the array held at them. -/
theorem chunks_join (c : Dev nD) (a : Memref sig .tc .hbm S65536x128 .f32) (X : FVec F S65536x128 .f32) :
    iprop((bigSep Finset.univ fun j => owns (c : Thread nD τ) (chunkOf a 0 j) fullShare (part X 0 j))
        ∗ (bigSep Finset.univ fun j => owns (c : Thread nD τ) (chunkOf a 1 j) fullShare (part X 1 j)))
      ⊢ (owns (c : Thread nD τ) a fullShare X : sProp 𝕄) := by
  refine BIBase.Entails.trans ?_ (owns_of_rects (Val := Elt F) (c : Thread nD τ) a fullShare chunkRect (fun _ _ => rfl) chunk_disjoint chunk_cover X)
  rw [bigSep_univ_prod, bigSep_univ_two]
  exact .rfl

/-- The elements of a slot, as elements of the buffer. -/
def slotSet (c : Dev nD) (a : Memref sig .tc .vmem S16x2048x128 .f32) (j : Fin 16) : Finset (Idx (a.view.loc (c : Thread nD τ))) :=
  (slotRect j).set.map a.view.emb

/-- A slot's elements, named by its memref. -/
theorem slotSet_eq (c : Dev nD) (a : Memref sig .tc .vmem S16x2048x128 .f32) (j : Fin 16) : (slotOf a j).view.set = slotSet c a j :=
  (View.set_reshape _ _).trans (View.set_slice _ _)

/-- The elements of a memref's slots are disjoint, -/
theorem slotSet_disjoint (c : Dev nD) (a : Memref sig .tc .vmem S16x2048x128 .f32) (j j' : Fin 16) (h : j ≠ j') :
    Disjoint (slotSet c a j) (slotSet c a j') :=
  (Finset.disjoint_map _).mpr (slot_disjoint j j' h)

/-- and are all of its elements. -/
theorem slotSet_cover (c : Dev nD) (a : Memref sig .tc .vmem S16x2048x128 .f32) :
    Finset.univ.biUnion (slotSet c a) = a.view.set := by
  ext i
  rw [Finset.mem_biUnion]
  constructor
  · rintro ⟨j, -, h⟩
    obtain ⟨x, -, rfl⟩ := Finset.mem_map.mp h
    exact View.emb_mem_set _ x
  · intro h
    obtain ⟨x, -, rfl⟩ := Finset.mem_map.mp h
    obtain ⟨j, -, hj⟩ := Finset.mem_biUnion.mp (slot_cover.symm ▸ Finset.mem_univ x)
    exact ⟨j, Finset.mem_univ _, Finset.mem_map_of_mem _ hj⟩

/-- A buffer's elements at some contents are its slots' elements at them. -/
theorem slots_eq (c : Dev nD) (a : Memref sig .tc .vmem S16x2048x128 .f32) (f : Buf (Elt F) (a.view.loc (c : Thread nD τ))) :
    (a.view.loc (c : Thread nD τ) ↦[a.view.set]{fullShare} f : sProp 𝕄)
      = bigSep Finset.univ fun j => a.view.loc (c : Thread nD τ) ↦[slotSet c a j]{fullShare} f :=
  Ring.pointsTo_sub_blocks (slotSet c a) (slotSet_disjoint c a) a.view.set (slotSet_cover c a) f

/-- A slot at some contents is the slot at anything, -/
theorem slot_loose (c : Dev nD) (a : Memref sig .tc .vmem S16x2048x128 .f32) (j : Fin 16) (f : Buf (Elt F) (a.view.loc (c : Thread nD τ))) :
    (a.view.loc (c : Thread nD τ) ↦[slotSet c a j]{fullShare} f : sProp 𝕄) ⊢ (loose c (slotOf a j) : sProp 𝕄) := by
  simp only [loose, owns_open c (slotOf a j), slotSet_eq c a j]
  iintro H
  iexists ((slotOf a j).view.read (Elt F) f)
  iexists f
  isplitr; swap; · iexact H
  ipureintro; rfl

/-- and back. -/
theorem loose_slot (c : Dev nD) (a : Memref sig .tc .vmem S16x2048x128 .f32) (j : Fin 16) :
    (loose c (slotOf a j) : sProp 𝕄) ⊢ iprop(∃ f, a.view.loc (c : Thread nD τ) ↦[slotSet c a j]{fullShare} f) := by
  simp only [loose, owns_open c (slotOf a j), slotSet_eq c a j]
  iintro ⟨%X, %f, -, H⟩
  iexists f; iexact H

/-- A buffer at anything is its slots at anything, -/
theorem slots_split (c : Dev nD) (a : Memref sig .tc .vmem S16x2048x128 .f32) :
    (loose c a : sProp 𝕄) ⊢ bigSep Finset.univ fun j => (loose c (slotOf a j) : sProp 𝕄) := by
  have h : ∀ f, (a.view.loc (c : Thread nD τ) ↦[a.view.set]{fullShare} f : sProp 𝕄) ⊢ bigSep Finset.univ fun j => (loose c (slotOf a j) : sProp 𝕄) :=
    fun f => by
      rw [slots_eq c a f]
      exact bigSep_mono fun j _ => slot_loose c a j f
  simp only [loose, owns_open c a]
  iintro ⟨%X, %f, -, H⟩
  iapply (h f) $$ H

/-- and back. -/
theorem slots_join (c : Dev nD) (a : Memref sig .tc .vmem S16x2048x128 .f32) :
    (bigSep Finset.univ fun j => (loose c (slotOf a j) : sProp 𝕄)) ⊢ (loose c a : sProp 𝕄) := by
  have h := (show (bigSep Finset.univ fun j => (loose c (slotOf a j) : sProp 𝕄)) ⊢ _ from
      bigSep_mono fun j _ => loose_slot c a j).trans
    (Ring.pointsTo_sub_blocks_join_exists (slotSet c a) (slotSet_disjoint c a) a.view.set (slotSet_cover c a)
    (fun _ => Classical.choice inferInstance))
  refine h.trans ?_
  simp only [loose, owns_open c a]
  iintro ⟨%f, H⟩
  iexists (a.view.read (Elt F) f)
  iexists f
  isplitr; swap; · iexact H
  ipureintro; rfl

end Cert.Kernel.Chunks
-- ==== Proof.Body.lean ====
/-
  The kernel's body: the table and the bias read, then the two phases. It leaves every operand as it was and the array
  written at `result`, each chunk of which is the chunk's product with the weights plus the table and the bias.
-/
module

public import proofs.«01_k».proof.Proof.Split
public import Idealize.ShloMosaic.Lib.Pointwise.Index

@[expose] public section

set_option maxRecDepth 16384

noncomputable section

namespace Cert.Kernel.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The array written: row `r` is row `r % 2048` of its chunk's result. -/
def result (v : FVec F S2048x128 .f32) (X : FVec F S65536x128 .f32) (B : FVec F S128x128 .f32) : FVec F S65536x128 .f32 :=
  fun i =>
    have h : (i 0).val < 65536 := (i 0).isLt
    chunkVal v (part X ⟨(i 0).val / 32768, by omega⟩ ⟨(i 0).val / 2048 % 16, by omega⟩) B
      (ix2 (⟨(i 0).val % 2048, by omega⟩ : Fin 2048) (⟨(i 1).val, (i 1).isLt⟩ : Fin 128))

/-- A chunk of the array written is the chunk's result. -/
theorem part_result (v : FVec F S2048x128 .f32) (X : FVec F S65536x128 .f32) (B : FVec F S128x128 .f32) (p : Fin 2) (j : Fin 16) :
    part (result v X B) p j = chunkVal v (part X p j) B := by
  funext i
  have e0 : ((rowRect p j).emb i 0).val = (16 * p.val + j.val) * 2048 + (i 0).val := by
    show row p j + 1 * (i 0).val = _
    unfold row; omega
  have e1 : ((rowRect p j).emb i 1).val = (i 1).val := by
    show 0 + 1 * (i 1).val = _
    omega
  have hi : (i 0).val < 2048 := (i 0).isLt
  have hp := p.isLt
  have hj := j.isLt
  have a1 : ((rowRect p j).emb i 0).val / 32768 = p.val := by rw [e0]; omega
  have a2 : ((rowRect p j).emb i 0).val / 2048 % 16 = j.val := by rw [e0]; omega
  have a3 : ((rowRect p j).emb i 0).val % 2048 = (i 0).val := by rw [e0]; omega
  have key : ∀ (p' : Fin 2) (j' : Fin 16) (i' : S2048x128.Idx), p' = p → j' = j → i' = i →
      chunkVal v (part X p' j') B i' = chunkVal v (part X p j) B i := by
    rintro _ _ _ rfl rfl rfl; rfl
  refine key _ _ _ (Fin.ext a1) (Fin.ext a2) (funext fun a => ?_)
  match a with
  | ⟨0, _⟩ => exact Fin.ext a3
  | ⟨1, _⟩ => exact Fin.ext e1

variable (o : Operands) (c : Dev nD) (p : Fin 2) (v : FVec F S2048x128 .f32) (B : FVec F S128x128 .f32) (q : PosShare TreeShare)
  (X : Fin 16 → FVec F S2048x128 .f32)

/-- Every slot at rest, part by part. -/
theorem idle_eq : (bigSep Finset.univ (idle o c p X) : sProp 𝕄)
    = iprop((bigSep Finset.univ fun j => (loose c (slotOf o.buf j) : sProp 𝕄)) ∗ (bigSep Finset.univ fun j => (cell c o.semIn j : sProp 𝕄))
      ∗ (bigSep Finset.univ fun j => source o c p X j)
      ∗ (bigSep Finset.univ fun j => (loose c (slotOf o.out j) : sProp 𝕄)) ∗ (bigSep Finset.univ fun j => (cell c o.semOut j : sProp 𝕄))
      ∗ (bigSep Finset.univ fun j => (loose c (chunkOf o.y p j) : sProp 𝕄))) := by
  unfold idle
  rw [bigSep_sep', bigSep_sep', bigSep_sep', bigSep_sep', bigSep_sep']

/-- Every chunk written, part by part. -/
theorem done_eq : (bigSep Finset.univ (done o c p v B X) : sProp 𝕄)
    = iprop((bigSep Finset.univ fun j => (loose c (slotOf o.buf j) : sProp 𝕄)) ∗ (bigSep Finset.univ fun j => (cell c o.semIn j : sProp 𝕄))
      ∗ (bigSep Finset.univ fun j => source o c p X j)
      ∗ (bigSep Finset.univ fun j => (loose c (slotOf o.out j) : sProp 𝕄)) ∗ (bigSep Finset.univ fun j => (cell c o.semOut j : sProp 𝕄))
      ∗ (bigSep Finset.univ fun j => owns (c : Thread nD τ) (chunkOf o.y p j) fullShare (chunkVal v (X j) B))) := by
  unfold done
  rw [bigSep_sep', bigSep_sep', bigSep_sep', bigSep_sep', bigSep_sep']

/-- An array at anything is its chunks at anything. -/
theorem chunks_loose (a : Memref sig .tc .hbm S65536x128 .f32) :
    (loose c a : sProp 𝕄) ⊢ iprop((bigSep Finset.univ fun j => (loose c (chunkOf a 0 j) : sProp 𝕄))
      ∗ (bigSep Finset.univ fun j => (loose c (chunkOf a 1 j) : sProp 𝕄))) := by
  have h : ∀ (Y : FVec F S65536x128 .f32) (p : Fin 2), (bigSep Finset.univ fun j => owns (c : Thread nD τ) (chunkOf a p j) fullShare (part Y p j) : sProp 𝕄)
      ⊢ bigSep Finset.univ fun j => (loose c (chunkOf a p j) : sProp 𝕄) := fun Y p =>
    bigSep_mono fun j _ => (show (owns (c : Thread nD τ) (chunkOf a p j) fullShare (part Y p j) : sProp 𝕄) ⊢ (loose c (chunkOf a p j) : sProp 𝕄) by
      iintro H; iexists _; iexact H)
  iintro ⟨%Y, H⟩
  ihave H := (chunks_split c a Y) $$ H
  icases H with ⟨H0, H1⟩
  isplitl [H0]
  · iapply (h Y 0) $$ H0
  · iapply (h Y 1) $$ H1

/-- What a phase keeps from start to end: both buffers' slots, both arrays of cells, the weights, the core owing nothing. -/
def tools : sProp 𝕄 :=
  iprop((bigSep Finset.univ fun j => (loose c (slotOf o.buf j) : sProp 𝕄)) ∗ (bigSep Finset.univ fun j => (cell c o.semIn j : sProp 𝕄))
    ∗ (bigSep Finset.univ fun j => (loose c (slotOf o.out j) : sProp 𝕄)) ∗ (bigSep Finset.univ fun j => (cell c o.semOut j : sProp 𝕄))
    ∗ shared o c B q)

/-- One phase, by parts: the chunks of the array read stay, those of the array written end at their results. -/
theorem phase_parts (Q : PUnit → sProp 𝕄) (k : PUnit → KProg F PUnit) :
    iprop(tools o c B q ∗ (bigSep Finset.univ fun j => source o c p X j) ∗ (bigSep Finset.univ fun j => (loose c (chunkOf o.y p j) : sProp 𝕄)))
      ⊢ iprop((iprop(tools o c B q ∗ (bigSep Finset.univ fun j => source o c p X j)
            ∗ (bigSep Finset.univ fun j => owns (c : Thread nD τ) (chunkOf o.y p j) fullShare (chunkVal v (X j) B))) -∗ Runs c (k ⟨⟩) Q)
        -∗ Runs c (phase o.x o.w o.y o.buf o.out o.semIn o.semOut v p >>= k) Q) := by
  have h := phase_step o c p v B q X Q k
  rw [idle_eq, done_eq] at h
  unfold tools
  iintro ⟨⟨Hb, Hi, Ho, Hso, HR⟩, Hx, Hy⟩ Hk
  iapply h $$ [Hb Hi Ho Hso HR Hx Hy]
  · isplitr [HR]; swap; · iexact HR
    isplitl [Hb]; · iexact Hb
    isplitl [Hi]; · iexact Hi
    isplitl [Hx]; · iexact Hx
    isplitl [Ho]; · iexact Ho
    isplitl [Hso]; · iexact Hso
    iexact Hy
  iintro ⟨⟨Hb, Hi, Hx, Ho, Hso, Hy⟩, HR⟩
  iapply Hk
  isplitr [Hx Hy]
  · isplitl [Hb]; · iexact Hb
    isplitl [Hi]; · iexact Hi
    isplitl [Ho]; · iexact Ho
    isplitl [Hso]; · iexact Hso
    iexact HR
  isplitl [Hx]; · iexact Hx
  iexact Hy

/-- The body, from the arrays whole: `y` ends at `result`, everything else as it was. -/
theorem body_step (b : Memref sig .tc .vmem S1x128 .f32) (t : Memref sig .tc .vmem S2048x128 .f32)
    (X : FVec F S65536x128 .f32) (bv : FVec F S1x128 .f32) (tv : FVec F S2048x128 .f32) (Q : PUnit → sProp 𝕄) :
    iprop(tools o c B q ∗ owns (c : Thread nD τ) b q bv ∗ owns (c : Thread nD τ) t q tv
        ∗ owns (c : Thread nD τ) o.x fullShare X ∗ loose c o.y)
      ⊢ iprop((iprop(tools o c B q ∗ owns (c : Thread nD τ) b q bv ∗ owns (c : Thread nD τ) t q tv
            ∗ owns (c : Thread nD τ) o.x fullShare X ∗ owns (c : Thread nD τ) o.y fullShare (result (k0_pay1 tv bv) X B)) -∗ Q ⟨⟩)
        -∗ Runs c (body o.x o.w b t o.y o.buf o.out o.semIn o.semOut) Q) := by
  have hj : ∀ p, (fun j => owns (c : Thread nD τ) (chunkOf o.y p j) fullShare (part (result (k0_pay1 tv bv) X B) p j) : Fin 16 → sProp 𝕄)
      = fun j => owns (c : Thread nD τ) (chunkOf o.y p j) fullShare (chunkVal (k0_pay1 tv bv) (part X p j) B) := fun p =>
    funext fun j => by rw [part_result]
  have hy := chunks_join c o.y (result (k0_pay1 tv bv) X B)
  rw [hj 0, hj 1] at hy
  iintro ⟨HT, Hb, Ht, Hx, Hy⟩ Hk
  ihave Hx := (chunks_split c o.x X) $$ Hx
  icases Hx with ⟨Hx0, Hx1⟩
  ihave Hy := (chunks_loose c o.y) $$ Hy
  icases Hy with ⟨Hy0, Hy1⟩
  unfold body
  iapply (load_step c t (by intro i; fin_cases i <;> rfl) inb_S2048x128_S2048x128_0_0 q tv) $$ Ht
  iintro Ht
  iapply (load_step c b (by intro i; fin_cases i <;> rfl) inb_S1x128_S1x128_0_0 q bv) $$ Hb
  iintro Hb
  iapply (phase_parts o c 0 (k0_pay1 tv bv) B q (part X 0) Q
    (fun _ => phase o.x o.w o.y o.buf o.out o.semIn o.semOut (k0_pay1 tv bv) 1)) $$ [HT Hx0 Hy0]
  · isplitl [HT]; · iexact HT
    isplitl [Hx0]; · iexact Hx0
    iexact Hy0
  iintro ⟨HT, Hx0, Hy0⟩
  have e : (phase o.x o.w o.y o.buf o.out o.semIn o.semOut (k0_pay1 tv bv) 1 : KProg F PUnit)
      = phase o.x o.w o.y o.buf o.out o.semIn o.semOut (k0_pay1 tv bv) 1 >>= fun r => Prog.ret r := (bind_pure _).symm
  rw [e]
  iapply (phase_parts o c 1 (k0_pay1 tv bv) B q (part X 1) Q (fun r => Prog.ret r)) $$ [HT Hx1 Hy1]
  · isplitl [HT]; · iexact HT
    isplitl [Hx1]; · iexact Hx1
    iexact Hy1
  iintro ⟨HT, Hx1, Hy1⟩
  unfold Runs
  sl_step
  iapply Hk
  isplitl [HT]; · iexact HT
  isplitl [Hb]; · iexact Hb
  isplitl [Ht]; · iexact Ht
  isplitl [Hx0 Hx1]
  · iapply (chunks_join c o.x X) $$ [Hx0 Hx1]
    isplitl [Hx0]; · iexact Hx0
    iexact Hx1
  iapply hy $$ [Hy0 Hy1]
  isplitl [Hy0]; · iexact Hy0
  iexact Hy1

end Cert.Kernel.Chunks
-- ==== Proof.Run.lean ====
/-
  The kernel's launch: the two buffers of slots, the thirty-two cells and the two arrays left in HBM are the invariant of
  the one point, the body is `body_step`, and the host line after the region reshapes what the body wrote. `run_value` is
  the run: it ends, the result at `kernelVal` of the arguments, the arguments as they were, every semaphore at zero.
-/
module

public import proofs.«01_k».proof.Proof.Body

@[expose] public section

set_option maxRecDepth 16384

noncomputable section

namespace Cert.Kernel.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines -/

/-- The region finds the reshaped first argument, -/
theorem V_x (c : Dev nD) : V m c main_v0
    = shapeCast S65536x128 (m ((c : Thread nD τ).loc main_arg0)) shapeCasts_S32x2048x128_S65536x128 := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result_ne (h := by decide), StableHlo.reshape_result]
  rfl

/-- and the bias reshaped to a row. -/
theorem V_b (c : Dev nD) : V m c main_v1 = shapeCast S1x128 (m ((c : Thread nD τ).loc main_arg2)) shapeCasts_S128_S1x128 := by
  show StableHlo.after (List.flatten [hostOps0]) (fun b => m (c, b)) (Proc.devRef .tc main_v1) = _
  simp only [hostOps0, List.flatten_cons, List.flatten_nil, List.append_nil, StableHlo.after_cons, StableHlo.after_nil]
  rw [StableHlo.reshape_result, StableHlo.reshape_result_ne (h := by decide)]
  rfl

/-- @main around the region, at this algebra. -/
theorem main_around (𝒱₀ : Variants) : Pipeline.HMainK (Ix := Unit) (Name := ℕ) (U := Pipeline.UD sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The windows' blocks are their arrays -/

/-- The weights' block is the weights, -/
theorem blk_w (c : Dev nD) (t : Fin cfg0.N) : iblk m c 0 t = m ((c : Thread nD τ).loc main_arg1) := by
  rw [← V_main_arg1 m c]
  funext x
  show V m c main_arg1 (((cfg0.win 0).rect t).emb x) = V m c main_arg1 x
  congr 1; funext a
  exact Fin.ext (Pipeline.Window.rect_emb_val_of_index_zero _ t a rfl x)

/-- the bias row's block is the bias row, -/
theorem blk_b (c : Dev nD) (t : Fin cfg0.N) : iblk m c 1 t = V m c main_v1 := by
  funext x
  show V m c main_v1 (((cfg0.win 1).rect t).emb x) = V m c main_v1 x
  congr 1; funext a
  exact Fin.ext (Pipeline.Window.rect_emb_val_of_index_zero _ t a rfl x)

/-- and the table's block is the table. -/
theorem blk_t (c : Dev nD) (t : Fin cfg0.N) : iblk m c 2 t = m ((c : Thread nD τ).loc main_arg3) := by
  rw [← V_main_arg3 m c]
  funext x
  show V m c main_arg3 (((cfg0.win 2).rect t).emb x) = V m c main_arg3 x
  congr 1; funext a
  exact Fin.ext (Pipeline.Window.rect_emb_val_of_index_zero _ t a rfl x)

/-! ## What the region's point holds -/

/-- The thirty-two cells: the sixteen of the copies in, the sixteen of the copies out. -/
abbrev osem : Fin 2 × Fin 16 → SemLoc sig := fun k => .dma (semAt (if k.1 = 0 then cc0_scratch2 else cc0_scratch3) k.2)
/-- The body's own cells are distinct, and no window's. -/
theorem osem_facts : Pipeline.OwnSemFacts spec0 osem := by decide +kernel
/-- The array the copies read. -/
abbrev readSet : Finset (Ref sig .tc) := {main_v0}
/-- The array the copies write. -/
abbrev writeSet : Finset (Ref sig .tc) := {main_v2}
/-- The array read is no window's, -/
theorem readSet_sub : readSet ⊆ Pipeline.restRefs sig spec0 := by decide
/-- nor are the arrays written, and none of them is the array read. -/
theorem writeSet_sub : writeSet ⊆ Pipeline.restRefs sig spec0 \ readSet := by decide

/-- The body's operands at the point. -/
abbrev ops (t : Fin cfg0.N) : Operands :=
  ⟨Memref.whole main_v0, win0_0.stage (cfg0.slots t 0), Memref.whole main_v2, Memref.whole cc0_scratch0, Memref.whole cc0_scratch1,
    cc0_scratch2, cc0_scratch3⟩

/-- The buffers' slots at anything, the cells at zero. -/
def slack (c : Dev nD) : sProp 𝕄 :=
  iprop((bigSep Finset.univ fun j => (loose c (slotOf (Memref.whole cc0_scratch0) j) : sProp 𝕄))
    ∗ (bigSep Finset.univ fun j => (cell c cc0_scratch2 j : sProp 𝕄))
    ∗ (bigSep Finset.univ fun j => (loose c (slotOf (Memref.whole cc0_scratch1) j) : sProp 𝕄))
    ∗ (bigSep Finset.univ fun j => (cell c cc0_scratch3 j : sProp 𝕄)))

/-- The cells at zero, by array of cells. -/
theorem cells_eq (c : Dev nD) :
    (Pipeline.ownSems0 (Ix := Unit) (Name := ℕ) (U := Pipeline.UD sig nD τ) (Lvl := ℕ) (Val := Elt F) (τ := τ) osem c : sProp 𝕄)
      = iprop((bigSep Finset.univ fun j => (cell c cc0_scratch2 j : sProp 𝕄)) ∗ (bigSep Finset.univ fun j => (cell c cc0_scratch3 j : sProp 𝕄))) := by
  unfold Pipeline.ownSems0
  rw [bigSep_univ_prod, bigSep_univ_two]
  rfl

/-- The invariant with the written array at `G`, as the body wants it. -/
theorem inv_eq (G : (c : Dev nD) → (b : Ref sig .tc) → Buf (Elt F) ((c : Thread nD τ).loc b)) (c : Dev nD) :
    (Pipeline.ΦDRV osem spec0 readSet writeSet (V m) G c : sProp 𝕄)
      = iprop((loose c (Memref.whole cc0_scratch0) ∗ loose c (Memref.whole cc0_scratch1))
        ∗ ((bigSep Finset.univ fun j => (cell c cc0_scratch2 j : sProp 𝕄)) ∗ (bigSep Finset.univ fun j => (cell c cc0_scratch3 j : sProp 𝕄)))
        ∗ owns (c : Thread nD τ) (Memref.whole main_v0) fullShare (V m c main_v0)
        ∗ owns (c : Thread nD τ) (Memref.whole main_v2) fullShare (G c main_v2)) := by
  unfold Pipeline.ΦDRV
  rw [scopedRest0_eq, cells_eq, bigSep_singleton, bigSep_singleton]
  simp only [loose, owns_whole]
  rfl

/-- The invariant opened into slots, -/
theorem inv_open (G : (c : Dev nD) → (b : Ref sig .tc) → Buf (Elt F) ((c : Thread nD τ).loc b)) (c : Dev nD) :
    (Pipeline.ΦDRV osem spec0 readSet writeSet (V m) G c : sProp 𝕄)
      ⊢ iprop(slack c ∗ owns (c : Thread nD τ) (Memref.whole main_v0) fullShare (V m c main_v0)
        ∗ owns (c : Thread nD τ) (Memref.whole main_v2) fullShare (G c main_v2)) := by
  rw [inv_eq]
  unfold slack
  iintro ⟨⟨Hb, Ho⟩, ⟨Hi, Hs⟩, Hx, Hy⟩
  ihave Hb := (slots_split c (Memref.whole cc0_scratch0)) $$ Hb
  ihave Ho := (slots_split c (Memref.whole cc0_scratch1)) $$ Ho
  iframe Hb Hi Ho Hs Hx Hy

/-- and closed again. -/
theorem inv_close (G : (c : Dev nD) → (b : Ref sig .tc) → Buf (Elt F) ((c : Thread nD τ).loc b)) (c : Dev nD) :
    iprop(slack c ∗ owns (c : Thread nD τ) (Memref.whole main_v0) fullShare (V m c main_v0)
        ∗ owns (c : Thread nD τ) (Memref.whole main_v2) fullShare (G c main_v2))
      ⊢ (Pipeline.ΦDRV osem spec0 readSet writeSet (V m) G c : sProp 𝕄) := by
  rw [inv_eq]
  unfold slack
  iintro ⟨⟨Hb, Hi, Ho, Hs⟩, Hx, Hy⟩
  ihave Hb := (slots_join c (Memref.whole cc0_scratch0)) $$ Hb
  ihave Ho := (slots_join c (Memref.whole cc0_scratch1)) $$ Ho
  iframe Hb Hi Ho Hs Hx Hy

/-! ## The proof data -/

/-- What the region leaves in HBM: the array written at the chunks' results, every other buffer as it was. -/
def final (c : Dev nD) (b : Ref sig .tc) : Buf (Elt F) ((c : Thread nD τ).loc b) :=
  Function.update (V m c) main_v2 (result (k0_pay1 (m ((c : Thread nD τ).loc main_arg3)) (V m c main_v1)) (V m c main_v0)
    (m ((c : Thread nD τ).loc main_arg1))) b

/-- The arrays as the region finds them, every window's block left in place, the invariant before and after the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨_ + 3, h⟩ => absurd h (Nat.not_lt.2 (Nat.le_add_left _ _))
  Φ k := if k.val = 0 then Pipeline.ΦDRV osem spec0 readSet writeSet (V m) (V m) c
    else Pipeline.ΦDRV osem spec0 readSet writeSet (V m) (final m) c
  q _ := fullShare
  owed _ := 0

/-- A window's array is as the region finds it. -/
theorem A_eq (c : Dev nD) (w : Fin cfg0.W) : (dats m 0 c).A w = V m c (Pipeline.arrRef spec0 w) := by dsimp only [dats]
/-- The body leaves the weights' window its block, -/
theorem after_w (c : Dev nD) (t : Fin cfg0.N) : (dats m 0 c).after 0 t = iblk m c 0 t := by dsimp only [dats]
/-- the bias's, -/
theorem after_b (c : Dev nD) (t : Fin cfg0.N) : (dats m 0 c).after 1 t = iblk m c 1 t := by dsimp only [dats]
/-- and the table's. -/
theorem after_t (c : Dev nD) (t : Fin cfg0.N) : (dats m 0 c).after 2 t = iblk m c 2 t := by dsimp only [dats]

/-- Window `w`'s buffer holds its block when the body starts, -/
theorem before_w (c : Dev nD) (t : Fin cfg0.N) (d) : (dats m 0 c).before 0 t d = iblk m c 0 t :=
  ((dats m 0 c).before_in_eq_fetched 0 rfl (fun _ => rfl) (fun _ _ _ => rfl)
    (fun t => by rw [after_w]; unfold Dat.blockOf iblk; rw [A_eq]; try rfl) t d).trans
    (by unfold Dat.fetched Dat.blockOf iblk; rw [A_eq]; try rfl)
/-- so does the bias's, -/
theorem before_b (c : Dev nD) (t : Fin cfg0.N) (d) : (dats m 0 c).before 1 t d = iblk m c 1 t :=
  ((dats m 0 c).before_in_eq_fetched 1 rfl (fun _ => rfl) (fun _ _ _ => rfl)
    (fun t => by rw [after_b]; unfold Dat.blockOf iblk; rw [A_eq]; try rfl) t d).trans
    (by unfold Dat.fetched Dat.blockOf iblk; rw [A_eq]; try rfl)
/-- and the table's. -/
theorem before_t (c : Dev nD) (t : Fin cfg0.N) (d) : (dats m 0 c).before 2 t d = iblk m c 2 t :=
  ((dats m 0 c).before_in_eq_fetched 2 rfl (fun _ => rfl) (fun _ _ _ => rfl)
    (fun t => by rw [after_t]; unfold Dat.blockOf iblk; rw [A_eq]; try rfl) t d).trans
    (by unfold Dat.fetched Dat.blockOf iblk; rw [A_eq]; try rfl)

/-! ## The body at the point -/

/-- What the body starts from: the invariant and the three windows at their blocks. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What it ends with: the same, after its one point. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The invariant before the point, -/
theorem phi_start (c : Dev nD) (t : Fin cfg0.N) : (dats m 0 c).Φ t.castSucc = Pipeline.ΦDRV osem spec0 readSet writeSet (V m) (V m) c := by
  rw [fin_N0 t]; dsimp only [dats]; exact if_pos rfl
/-- and after it. -/
theorem phi_end (c : Dev nD) (t : Fin cfg0.N) : (dats m 0 c).Φ t.succ = Pipeline.ΦDRV osem spec0 readSet writeSet (V m) (final m) c := by
  rw [fin_N0 t]; dsimp only [dats]; exact if_neg (Nat.succ_ne_zero _)

/-- The array the body writes ends at the chunks' results. -/
theorem final_y (c : Dev nD) : final m c main_v2 = result (k0_pay1 (m ((c : Thread nD τ).loc main_arg3)) (V m c main_v1)) (V m c main_v0)
    (m ((c : Thread nD τ).loc main_arg1)) := by
  unfold final; exact Function.update_self ..

/-- The body at the point: from the invariant before it to the invariant after it, the windows' blocks left in place. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [kernel_eq, phi_start, phi_end]
  simp only [before_w, before_b, before_t, after_w, after_b, after_t, blk_w, blk_b, blk_t]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩⟩
  ihave HI := (inv_open m (V m) c) $$ HI
  icases HI with ⟨HS, Hx, Hy⟩
  iapply (body_step (ops t) c (m ((c : Thread nD τ).loc main_arg1)) fullShare (win0_1.stage (cfg0.slots t 1)) (win0_2.stage (cfg0.slots t 2))
    (V m c main_v0) (V m c main_v1) (m ((c : Thread nD τ).loc main_arg3)) _) $$ [HS HW H0 H1 H2 Hx Hy]
  · unfold tools slack
    icases HS with ⟨Hb, Hi, Ho, Hs⟩
    isplitl [Hb Hi Ho Hs H0 HW]
    · iframe Hb Hi Ho Hs
      isplitl [H0]; · iexact H0
      iexists W; iexact HW
    isplitl [H1]; · iexact H1
    isplitl [H2]; · iexact H2
    isplitl [Hx]; · iexact Hx
    iexists _; iexact Hy
  iintro ⟨HT, H1, H2, Hx, Hy⟩
  unfold tools
  icases HT with ⟨Hb, Hi, Ho, Hs, H0, ⟨%W', HW'⟩⟩
  isplitl [Hb Hi Ho Hs Hx Hy]
  · iapply (inv_close m (final m) c)
    unfold slack
    rw [final_y]
    isplitl [Hb Hi Ho Hs]; · iframe Hb Hi Ho Hs
    isplitl [Hx]; · iexact Hx
    iexact Hy
  isplitl [HW']
  · iexists W'; isplitr; · ipureintro; exact fun _ _ => Or.inl trivial
    iexact HW'
  isplitl [H0]; · iexact H0
  isplitl [H1]; · iexact H1
  iexact H2

/-- The call of the body at a point is the kernel on the windows' buffers. -/
theorem defs₀_row (t : Fin cfg0.N) :
    defs₀ (F := F) .tc cfg0.body (cfg0.bodyArgs t (cfg0.slots t)) = bodyAt0 t := by
  unfold defs₀; rw [Defs.onTc_tc]

/-- The body, at its point, does what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What @main ends with in its result: the chunks' results over the reshaped arguments, reshaped back. -/
def kernelVal (x : FVec F S32x2048x128 .f32) (w : FVec F S128x128 .f32) (b : FVec F S128 .f32) (t : FVec F S2048x128 .f32) :
    FVec F S32x2048x128 .f32 :=
  shapeCast S32x2048x128 (result (k0_pay1 t (shapeCast S1x128 b shapeCasts_S128_S1x128)) (shapeCast S65536x128 x shapeCasts_S32x2048x128_S65536x128) w)
    shapeCasts_S65536x128_S32x2048x128

/-- The buffers after the region, before the line that reshapes its result. -/
abbrev mid (c : Dev nD) : Valuation τ sig (Elt F) :=
  Pipeline.withArrays spec0 c (Pipeline.withR (V0 m c) writeSet c (final m c)) fun w => (dats m 0 c).arrAt w cfg0.N

set_option backward.isDefEq.respectTransparency.types false in
/-- The run, buffer by buffer. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (mid m c) (Proc.devRef .tc b))
    ∧ r.2.sem = fun _ => 0) :=
  Pipeline.θ_run_frame_dmaR_aroundV (Q' := _) cfgs (dats m) (0 : Fin 1) launch0 osem defs₀ Variants.none osem_facts readSet writeSet
    readSet_sub writeSet_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := final m) (hmain := main_around m Variants.none) (hA := A_eq m)
    (hin := fun c => (show _ ⊢ _ from .rfl)) (hout := fun c => (show _ ⊢ _ from .rfl))

/-- The last line writes the result only. -/
theorem tail_ne (c : Dev nD) {b : Ref sig .tc} (hb : b ≠ main_v3) :
    StableHlo.after (List.flatten [hostOps1]) (mid m c) (Proc.devRef .tc b) = mid m c (Proc.devRef .tc b) := by
  simp only [hostOps1, List.flatten_cons, List.flatten_nil, List.append_nil, StableHlo.after_cons, StableHlo.after_nil]
  rw [StableHlo.reshape_result_ne (h := hb)]

/-- A buffer neither staged nor written by the body ends the region as it was. -/
theorem mid_ne (c : Dev nD) {b : Ref sig .tc} (ha : ∀ w, Pipeline.arrRef spec0 w ≠ b) (hb : b ∉ writeSet) :
    mid m c (Proc.devRef .tc b) = V m c b := by
  unfold mid
  rw [Pipeline.withArrays_of_ne _ c _ _ b ha, Pipeline.withR_of_not_mem _ _ _ _ _ hb]

/-- The result is `kernelVal` of the arguments. -/
theorem tail_result (c : Dev nD) : StableHlo.after (List.flatten [hostOps1]) (mid m c) (Proc.devRef .tc main_v3)
    = kernelVal (m ((c : Thread nD τ).loc main_arg0)) (m ((c : Thread nD τ).loc main_arg1)) (m ((c : Thread nD τ).loc main_arg2))
        (m ((c : Thread nD τ).loc main_arg3)) := by
  have h : mid m c (Proc.devRef .tc main_v2) = final m c main_v2 := by
    unfold mid
    rw [Pipeline.withArrays_of_ne _ c _ _ main_v2 (by decide), Pipeline.withR_of_mem _ _ _ _ _ (by decide)]
  simp only [hostOps1, List.flatten_cons, List.flatten_nil, List.append_nil, StableHlo.after_cons, StableHlo.after_nil]
  rw [StableHlo.reshape_result, h, final_y, V_x, V_b]
  rfl

/-- The run: it ends with the result at `kernelVal` of the arguments, the arguments unchanged, every semaphore at zero. -/
theorem run_value : θ_run defs (onTc (τ := τ) (main (F := F))) ⟨m, fun _ => 0, ρ⟩ (fun r => (∀ c : Dev nD,
      r.2.mem ((c.tc : Thread nD τ).loc main_v3)
        = kernelVal (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_v3 (Pipeline.mem_restRefs_of main_v3 (by decide) (by decide))).trans (tail_result m c),
      ((h.1 c).2 main_arg0 (Pipeline.mem_restRefs_of main_arg0 (by decide) (by decide))).trans
        ((tail_ne m c (by decide)).trans ((mid_ne m c (by decide) (by decide)).trans (V_main_arg0 m c))),
      ((h.1 c).1 0).trans (((dats m 0 c).arrAt_in 0 rfl _).trans (V_main_arg1 m c)),
      ((h.1 c).2 main_arg2 (Pipeline.mem_restRefs_of main_arg2 (by decide) (by decide))).trans
        ((tail_ne m c (by decide)).trans ((mid_ne m c (by decide) (by decide)).trans (V_main_arg2 m c))),
      ((h.1 c).1 2).trans (((dats m 0 c).arrAt_in 2 rfl _).trans (V_main_arg3 m c))⟩, h.2⟩) (run_main m ρ)

end Cert.Kernel.Chunks
-- ==== Proof.Reference.lean ====
/-
  The reference's value at an index: the positions `0 … 2047` it looks its table up at are in range, so the lookup is the
  table, and its result at `(a, i, e)` is the row's product with the column of weights, plus the bias, plus the table's entry.
-/
module

public import proofs.«01_k».proof.Proof.Gen.ReferenceIdeal.Run
public import Idealize.ShloMosaic.Lib.Pointwise
public import Idealize.ShloMosaic.Lib.ReduceAll

@[expose] public section

set_option maxRecDepth 16384

noncomputable section

namespace Cert.ReferenceIdeal.Chunks

open Idealize.ShloMosaic Idealize.ShloMosaic.TcCoe
open Cert.ReferenceIdeal Cert.ReferenceIdeal.Gen

/-- The positions as the lookup reads them: `0 … 2047`, a negative one moved up by 2048. -/
def words : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32))) (iotaInDim S2048 32 0)

/-- The positions as a column. -/
def column : IVec S2048x1 32 := broadcastInDim S2048x1 ![0] bcast_S2048_S2048x1_0 words

/-- A word below 2048 is not negative. -/
theorem not_neg (n : Fin 2048) : IntOp.cmpi .slt (BitVec.ofNat 32 n.val) 0#32 = 0#1 := by
  revert n; decide +kernel

/-- A word below 2048 passes both bounds of the lookup. -/
theorem in_range (n : Fin 2048) : IntOp.andi (IntOp.cmpi .sge (BitVec.ofNat 32 n.val) 0#32) (IntOp.cmpi .sle (BitVec.ofNat 32 n.val) 2047#32) = 1#1 := by
  revert n; decide +kernel

/-- Read signed and clamped to the table, a word below 2048 is itself. -/
theorem clamp_word (n : Fin 2048) : min (BitVec.ofNat 32 n.val).toInt.toNat 2047 = n.val := by
  revert n; decide +kernel

/-- Position `i` is the word `i`. -/
theorem words_apply (i : Fin 2048) : words (ix1 i) = BitVec.ofNat 32 i.val := by
  unfold words
  pointwise
  rw [not_neg]
  rfl

/-- Row `i` of the column is the word `i`. -/
theorem column_apply (i : Fin 2048) (j : Fin 1) : column (ix2 i j) = BitVec.ofNat 32 i.val := by
  unfold column
  pointwise
  exact words_apply i

/-- The column at any index is the word of the index's row. -/
theorem column_at (k : S2048x1.Idx) : column k = BitVec.ofNat 32 (k 0).val := by
  rw [eq_ix2 k]
  exact column_apply _ _

/-- The rows gathered at the column are the table's own. -/
theorem gather_column (t : FVec Ideal S2048x128 .f32) (i : Fin 2048) (e : Fin 128) :
    Host.gather gather_S2048x128_S2048x1_S2048x128_1_0_n_n_0_1_1128 t column (ix2 i e) = t (ix2 i e) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ gather_S2048x128_S2048x1_S2048x128_1_0_n_n_0_1_1128.startIndexMap from List.mem_singleton.mpr rfl),
      column_at]
    exact clamp_word i
  · have hs : (1 : Fin 2) ∉ gather_S2048x128_S2048x1_S2048x128_1_0_n_n_0_1_1128.startIndexMap := by decide
    have hk : (1 : Fin 2) ∈ gather_S2048x128_S2048x1_S2048x128_1_0_n_n_0_1_1128.sKept := by decide
    unfold GatherDims.start GatherDims.offCoord
    rw [dif_neg hs, dif_pos hk, Nat.zero_add]
    rfl

/-- The bounds' verdict on every position: in range. -/
theorem mask_apply (i : Fin 2048) :
    Host.reduce IntOp.andi (andi (cmpi .sge column (broadcastInDim S2048x1 ![] bcast_S_S2048x1 (constantI S_ 32 0#32)))
      (cmpi .sle column (broadcastInDim S2048x1 ![0, 1] bcast_S1x1_S2048x1_0_1 (broadcastInDim S1x1 ![1] bcast_S1_S1x1_1 (constantI S1 32 2047#32)))))
      (constantI S_ 1 1#1) reducesTo_S2048x1_S2048_d1 h_S_ (ix1 i) = 1#1 := by
  refine Host.reduce_andi_one _ _ _ _ _ rfl fun k => ?_
  show IntOp.andi (IntOp.cmpi .sge (column k) 0#32) (IntOp.cmpi .sle (column k) 2047#32) = 1#1
  rw [column_at k]
  exact in_range (k 0)

/-- The table looked up at the positions, as the reference does it: a row out of range would read a fixed word. -/
def lookup (t : FVec Ideal S2048x128 .f32) : FVec Ideal S2048x128 .f32 :=
  select (broadcastInDim S2048x128 ![0] bcast_S2048_S2048x128_0 (Host.reduce IntOp.andi
      (andi (cmpi .sge column (broadcastInDim S2048x1 ![] bcast_S_S2048x1 (constantI S_ 32 0#32)))
        (cmpi .sle column (broadcastInDim S2048x1 ![0, 1] bcast_S1x1_S2048x1_0_1 (broadcastInDim S1x1 ![1] bcast_S1_S1x1_1 (constantI S1 32 2047#32)))))
      (constantI S_ 1 1#1) reducesTo_S2048x1_S2048_d1 h_S_))
    (Host.gather gather_S2048x128_S2048x1_S2048x128_1_0_n_n_0_1_1128 t column)
    (broadcastInDim S2048x128 ![] bcast_S_S2048x128 (constant S_ .f32 0x7FC00000#32))

/-- The lookup is the table. -/
theorem lookup_apply (t : FVec Ideal S2048x128 .f32) (i : Fin 2048) (e : Fin 128) : lookup t (ix2 i e) = t (ix2 i e) := by
  unfold lookup
  rw [show ∀ (c : IVec S2048x128 1) (p q : FVec Ideal S2048x128 .f32), select c p q (ix2 i e) = Scalar.select (c (ix2 i e)) (p (ix2 i e)) (q (ix2 i e))
    from fun _ _ _ => rfl, gather_column]
  have hm := mask_apply i
  generalize Host.reduce IntOp.andi _ _ _ _ = M at hm ⊢
  pointwise
  rw [hm]
  rfl

/-- The reference's result, as its run leaves it. -/
def refVal (x : FVec Ideal S32x2048x128 .f32) (w : FVec Ideal S128x128 .f32) (b : FVec Ideal S128 .f32)
    (t : FVec Ideal S2048x128 .f32) : FVec Ideal S32x2048x128 .f32 :=
  addf (addf (Host.dotGeneral dot_S32x2048x128_S128x128_S32x2048x128_2_0_01_1_n_n none x w)
      (broadcastInDim S32x2048x128 ![0, 1, 2] bcast_S1x1x128_S32x2048x128_0_1_2 (broadcastInDim S1x1x128 ![2] bcast_S128_S1x1x128_2 b)))
    (broadcastInDim S32x2048x128 ![0, 1, 2] bcast_S1x2048x128_S32x2048x128_0_1_2
      (broadcastInDim S1x2048x128 ![1, 2] bcast_S2048x128_S1x2048x128_1_2 (lookup t)))

/-- The reference's result at an index. -/
theorem refVal_apply (x : FVec Ideal S32x2048x128 .f32) (w : FVec Ideal S128x128 .f32) (b : FVec Ideal S128 .f32)
    (t : FVec Ideal S2048x128 .f32) (a : Fin 32) (i : Fin 2048) (e : Fin 128) :
    refVal x w b t (ix3 a i e) = (∑ k : Fin 128, x (ix3 a i k) * w (ix2 k e) + b (ix1 e)) + t (ix2 i e) := by
  have hl := lookup_apply t i e
  unfold refVal
  generalize lookup t = L at hl ⊢
  pointwise
  rw [← hl]

end Cert.ReferenceIdeal.Chunks
-- ==== Proof.Equation.lean ====
/-
  The equation: row `2048 a + i` of the kernel's array is row `(a, i)` of the result, its chunk is the one that holds the row,
  and there the kernel adds the table and the bias before it adds the product, where the reference adds them after.
-/
module

public import proofs.«01_k».proof.Proof.Run
public import proofs.«01_k».proof.Proof.Reference

@[expose] public section

set_option maxRecDepth 16384

noncomputable section

namespace Cert.Kernel.Chunks

open Idealize.ShloMosaic Idealize.ShloMosaic.TcCoe
open Cert.Kernel Cert.Kernel.Gen

/-- The table with the bias added, at an index. -/
theorem pay_apply (t : FVec Ideal S2048x128 .f32) (b : FVec Ideal S128 .f32) (i : Fin 2048) (e : Fin 128) :
    k0_pay1 t (shapeCast S1x128 b shapeCasts_S128_S1x128) (ix2 i e) = t (ix2 i e) + b (ix1 e) := by
  unfold k0_pay1
  pointwise

/-- A chunk's result at an index. -/
theorem chunk_apply (v : FVec Ideal S2048x128 .f32) (X : FVec Ideal S2048x128 .f32) (w : FVec Ideal S128x128 .f32) (i : Fin 2048) (e : Fin 128) :
    chunkVal v X w (ix2 i e) = (∑ k : Fin 128, X (ix2 i k) * w (ix2 k e)) + v (ix2 i e) := by
  unfold chunkVal
  pointwise

/-- Row `i` of chunk `(p, j)` is row `2048 (16 p + j) + i` of the array. -/
theorem part_apply (X : FVec Ideal S65536x128 .f32) (p : Fin 2) (j : Fin 16) (i : Fin 2048) (k : Fin 128)
    (r : Fin 65536) (h : r.val = (16 * p.val + j.val) * 2048 + i.val) :
    part X p j (ix2 i k) = X (ix2 r k) := by
  unfold part
  congr 1
  funext a
  apply Fin.ext
  match a with
  | ⟨0, _⟩ =>
    show row p j + 1 * i.val = r.val
    unfold row; omega
  | ⟨1, _⟩ =>
    show 0 + 1 * k.val = k.val
    omega

/-- The array written, at an index. -/
theorem result_apply (v : FVec Ideal S2048x128 .f32) (X : FVec Ideal S65536x128 .f32) (w : FVec Ideal S128x128 .f32)
    (r : Fin 65536) (i : Fin 2048) (e : Fin 128) (hi : r.val % 2048 = i.val) :
    result v X w (ix2 r e) = (∑ k : Fin 128, X (ix2 r k) * w (ix2 k e)) + v (ix2 i e) := by
  have hr := r.isLt
  obtain rfl : i = ⟨r.val % 2048, Nat.mod_lt _ (by norm_num)⟩ := Fin.ext hi.symm
  show chunkVal v (part X ⟨r.val / 32768, _⟩ ⟨r.val / 2048 % 16, _⟩) w (ix2 (⟨r.val % 2048, _⟩ : Fin 2048) e) = _
  rw [chunk_apply]
  congr 1
  refine Finset.sum_congr rfl fun k _ => ?_
  rw [part_apply X _ _ _ k r (by show r.val = (16 * (r.val / 32768) + r.val / 2048 % 16) * 2048 + r.val % 2048; omega)]

/-- The kernel's result at an index. -/
theorem kernelVal_apply (x : FVec Ideal S32x2048x128 .f32) (w : FVec Ideal S128x128 .f32) (b : FVec Ideal S128 .f32)
    (t : FVec Ideal S2048x128 .f32) (a : Fin 32) (i : Fin 2048) (e : Fin 128) :
    kernelVal x w b t (ix3 a i e) = (∑ k : Fin 128, x (ix3 a i k) * w (ix2 k e)) + (t (ix2 i e) + b (ix1 e)) := by
  unfold kernelVal
  have hr : ∀ k : Fin 128, shapeCast S65536x128 x shapeCasts_S32x2048x128_S65536x128
      (ix2 (⟨a.val * 2048 + i.val, by omega⟩ : Fin 65536) k) = x (ix3 a i k) := by
    intro k
    pointwise
  have h := result_apply (k0_pay1 t (shapeCast S1x128 b shapeCasts_S128_S1x128))
    (shapeCast S65536x128 x shapeCasts_S32x2048x128_S65536x128) w ⟨a.val * 2048 + i.val, by omega⟩ i e
    (by show (a.val * 2048 + i.val) % 2048 = i.val; omega)
  simp only [hr] at h
  rw [← pay_apply t b i e]
  refine Eq.trans ?_ h
  generalize result (F := Ideal) _ _ _ = R
  pointwise

/-- The kernel's result is the reference's. -/
theorem kernelVal_eq (x : FVec Ideal S32x2048x128 .f32) (w : FVec Ideal S128x128 .f32) (b : FVec Ideal S128 .f32)
    (t : FVec Ideal S2048x128 .f32) : kernelVal x w b t = Cert.ReferenceIdeal.Chunks.refVal x w b t := by
  funext j
  idx_vars j
  rw [kernelVal_apply, Cert.ReferenceIdeal.Chunks.refVal_apply, add_comm (t _) (b _), add_assoc]

end Cert.Kernel.Chunks

end
-- ==== Proof.Same.lean ====
/-
  The program printed for the extended reals is the kernel's own text, so its body table is the kernel's read there.
-/
module

public import proofs.«01_k».proof.Proof.Gen.Kernel
public import proofs.«01_k».proof.Proof.Gen.KernelIdeal
public import Idealize.ShloMosaic.PureOps.Ideal

@[expose] public section

set_option maxRecDepth 16384

noncomputable section

namespace Cert.Proof

open Idealize.ShloMosaic

/-- The two programs' kernel is one, -/
theorem kernel_same : Cert.KernelIdeal.cc0__fused_kernel (F := Ideal) = Cert.Kernel.cc0__fused_kernel (F := Ideal) := rfl

/-- so the label that calls it has one body, -/
theorem labels_same : Cert.KernelIdeal.defs₀ (F := Ideal) = Cert.Kernel.defs₀ (F := Ideal) := by
  show Defs.onTc _ = Defs.onTc _
  refine congrArg Defs.onTc ?_
  funext l a
  match l, a with
  | ⟨0, _⟩, (_, _) => rfl

/-- and the body tables are equal. -/
theorem tables_same : Cert.KernelIdeal.defs (F := Ideal) = Cert.Kernel.defs (F := Ideal) := by
  show Pipeline.defs _ _ = Pipeline.defs _ _
  rw [labels_same]

end Cert.Proof

end
-- ==== Proof.lean ====
/-
  The certificate: the kernel and its reference both end with their arguments as they were and every semaphore at zero, the
  program read over the extended reals is the kernel's own, and there the kernel and the reference give equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends, its arguments as they were and every semaphore at zero, over float words. -/
theorem kernel_frame : Cert.quiescent_Kernel (hKernel := Cert.Kernel.Gen.facts) := fun m g _ =>
  (θ_run _ _ _).mono (fun _ h => ⟨fun c => (h.1 c).2, h.2⟩) (Cert.Kernel.Chunks.run_value (F := Bits) m g)

/-- The same program's run over the extended reals, with its result. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v3)
          = Cert.Kernel.Chunks.kernelVal (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  rw [tables_same]
  exact Cert.Kernel.Chunks.run_value (F := Ideal) m g

/-- Over the extended reals it ends the same way. -/
theorem ideal_frame : Cert.quiescent_KernelIdeal (hKernelIdeal := Cert.KernelIdeal.Gen.facts) := fun m g _ =>
  (θ_run _ _ _).mono (fun _ h => ⟨fun c => (h.1 c).2, h.2⟩) (ideal_run m g)

/-- The reference ends, its arguments as they were; it has no semaphores. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- From equal arguments the two results are equal. -/
theorem results_equal : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun _ h => h.1) (ideal_run m g),
    (θ_run _ _ _).mono (fun _ h c => ⟨(h c).1.trans ?_, (h c).2⟩) (Cert.ReferenceIdeal.Value.run (F := Ideal) m' g')⟩
  obtain ⟨h0, h1, h2, h3⟩ := hm c
  rw [Cert.Kernel.Chunks.kernelVal_eq, ← h0, ← h1, ← h2, ← h3]
  rfl

/-- All five claims. -/
theorem claim : Cert.Claim := ⟨Cert.Kernel.Gen.facts, Cert.KernelIdeal.Gen.facts, Cert.ReferenceIdeal.Gen.facts,
  kernel_frame, ideal_frame, reference_frame, trivial, results_equal⟩

end Cert.Proof

end
